-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_context_finite [hPre_context_finite : Cert.Pre_context_finite.Facts] (m : (ℓ : Loc Cert.KernelIdeal.nD Cert.KernelIdeal.τ Cert.KernelIdeal.sig) → Buf (Elt Ideal) ℓ) : Prop :=
  ∀ c : Dev Cert.KernelIdeal.nD,
    (Cert.Pre_context_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_context_finite [hPre_context_finite : Cert.Pre_context_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_context_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_context_finite [hKernelIdeal : Cert.KernelIdeal.Facts] [hPre_context_finite : Cert.Pre_context_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_context_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_context_finite [hReferenceIdeal : Cert.ReferenceIdeal.Facts] [hPre_context_finite : Cert.Pre_context_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_context_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_context_finite [hKernelIdeal : Cert.KernelIdeal.Facts] [hReferenceIdeal : Cert.ReferenceIdeal.Facts] [hPre_context_finite : Cert.Pre_context_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_context_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_context_finite : Cert.Pre_context_finite.Facts),
    quiescent_Kernel (hKernel := hKernel)
    ∧ quiescent_KernelIdeal (hKernelIdeal := hKernelIdeal)
    ∧ quiescent_KernelIdeal_pre_context_finite (hKernelIdeal := hKernelIdeal) (hPre_context_finite := hPre_context_finite)
    ∧ quiescent_ReferenceIdeal (hReferenceIdeal := hReferenceIdeal)
    ∧ quiescent_ReferenceIdeal_pre_context_finite (hReferenceIdeal := hReferenceIdeal) (hPre_context_finite := hPre_context_finite)
    ∧ preserves_Kernel_KernelIdeal
    ∧ algebraic_KernelIdeal_ReferenceIdeal_pre_context_finite (hKernelIdeal := hKernelIdeal) (hReferenceIdeal := hReferenceIdeal) (hPre_context_finite := hPre_context_finite)
-- ==== Pre_context_finite.lean ====
abbrev S256x512x256 : Shape := ⟨3, ![256, 512, 256]⟩
abbrev S256x256 : Shape := ⟨2, ![256, 256]⟩
abbrev S256 : Shape := ⟨1, ![256]⟩
abbrev S256x1 : Shape := ⟨2, ![256, 1]⟩
abbrev S_ : Shape := ⟨0, ![]⟩

class Facts : Prop where
  bcast_S_S256x1 : S_.BroadcastsInDim S256x1 (![] : Fin 0 → Fin S256x1.rank)

variable [Facts]

def fn {F : FTy → Type} [FloatOps F] (main_arg0 : FVec F S256x512x256 .f32) (main_arg1 : FVec F S256x256 .f32) (main_arg2 : FVec F S256 .f32) (main_arg3 : FVec F S256x1 .f32) : IVec S256x1 1 :=
  let main_v0 : FVec F S256x1 .f32 := Host.absf main_arg3
  let main_cst : FVec F S_ .f32 := constant S_ .f32 0x7F800000#32
  let main_v1 : FVec F S256x1 .f32 := broadcastInDim S256x1 ![] bcast_S_S256x1 main_cst
  let main_v2 : IVec S256x1 1 := cmpf .olt main_v0 main_v1
  main_v2
-- ==== Kernel.lean ====
abbrev S256x512x256 : Shape := ⟨3, ![256, 512, 256]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S32x512x256 : Shape := ⟨3, ![32, 512, 256]⟩
abbrev S32x256 : Shape := ⟨2, ![32, 256]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 7
  | .smem => 0
  | _ => 0

abbrev bufTy : (tb : Table) → Fin (tcTables nBuf tb) → BufTy
  | .hbm, ⟨0, _⟩ => ⟨S256x512x256, .f32⟩
  | .hbm, ⟨1, _⟩ => ⟨S256x256, .f32⟩
  | .hbm, ⟨2, _⟩ => ⟨S256, .f32⟩
  | .hbm, ⟨3, _⟩ => ⟨S256x1, .f32⟩
  | .hbm, ⟨4, _⟩ => ⟨S256x256, .f32⟩
  | .hbm, ⟨5, _⟩ => ⟨S256x256, .bf16⟩
  | .hbm, ⟨6, _⟩ => ⟨S1x256, .f32⟩
  | .hbm, ⟨7, _⟩ => ⟨S1x256, .f32⟩
  | .hbm, ⟨8, _⟩ => ⟨S256x256, .f32⟩
  | .local _ .vmem, ⟨0, _⟩ => ⟨S32x512x256, .f32⟩
  | .local _ .vmem, ⟨1, _⟩ => ⟨S32x512x256, .f32⟩
  | .local _ .vmem, ⟨2, _⟩ => ⟨S256x256, .bf16⟩
  | .local _ .vmem, ⟨3, _⟩ => ⟨S1x256, .f32⟩
  | .local _ .vmem, ⟨4, _⟩ => ⟨S1x256, .f32⟩
  | .local _ .vmem, ⟨5, _⟩ => ⟨S32x256, .f32⟩
  | .local _ .vmem, ⟨6, _⟩ => ⟨S32x256, .f32⟩
  | _, _ => ⟨S256x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S256x512x256 : Shape := ⟨3, ![256, 512, 256]⟩
abbrev S256x256 : Shape := ⟨2, ![256, 256]⟩
abbrev S256 : Shape := ⟨1, ![256]⟩
abbrev S256x1 : Shape := ⟨2, ![256, 1]⟩
abbrev S1x1x256 : Shape := ⟨3, ![1, 1, 256]⟩
abbrev S256x512 : Shape := ⟨2, ![256, 512]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S256x512x256, .f32⟩
  | .hbm, ⟨1, _⟩ => ⟨S256x256, .f32⟩
  | .hbm, ⟨2, _⟩ => ⟨S256, .f32⟩
  | .hbm, ⟨3, _⟩ => ⟨S256x1, .f32⟩
  | .hbm, ⟨4, _⟩ => ⟨S256x512x256, .f32⟩
  | .hbm, ⟨5, _⟩ => ⟨S1x1x256, .f32⟩
  | .hbm, ⟨6, _⟩ => ⟨S256x512x256, .f32⟩
  | .hbm, ⟨7, _⟩ => ⟨S256x512x256, .f32⟩
  | .hbm, ⟨8, _⟩ => ⟨S256x512x256, .f32⟩
  | .hbm, ⟨9, _⟩ => ⟨S256, .f32⟩
  | .hbm, ⟨10, _⟩ => ⟨S256x512, .f32⟩
  | .hbm, ⟨11, _⟩ => ⟨S_, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256x1, .f32⟩
  | .hbm, ⟨17, _⟩ => ⟨S256x512, .f32⟩
  | .hbm, ⟨18, _⟩ => ⟨S256x512, .f32⟩
  | .hbm, ⟨19, _⟩ => ⟨S256x512, .f32⟩
  | .hbm, ⟨20, _⟩ => ⟨S_, .f32⟩
  | .hbm, ⟨21, _⟩ => ⟨S256, .f32⟩
  | .hbm, ⟨22, _⟩ => ⟨S256x1, .f32⟩
  | .hbm, ⟨23, _⟩ => ⟨S256x512, .f32⟩
  | .hbm, ⟨24, _⟩ => ⟨S256x512, .f32⟩
  | .hbm, ⟨25, _⟩ => ⟨S256x256, .f32⟩
  | _, _ => ⟨S256x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Attention.lean ====
/-
  The mathematics of the attention row, with no program in it. A row has 512 scores and 512 values; the
  reference weighs the values by the softmax of the scores, shifted by their maximum, and the kernel divides
  the weighted sum of the values by the sum of the weights, the weights being powers of two of scores scaled
  by `1 / log 2`. The scores are real numbers (a hyperbolic tangent is one at every extended real, and the
  context vector is finite); the values are any extended reals.
-/
module

public import Idealize.ShloMosaic.PureOps.Ideal
public import Idealize.ShloMosaic.PureOps.Ideal.Laws

@[expose] public section

noncomputable section

namespace Cert.Proof.Attention

open Idealize.ShloMosaic
open scoped BigOperators

/-! ### Real numbers among the extended reals -/

/-- The hyperbolic tangent of an extended real, as the real number it is. -/
def tanhReal (x : EReal) : ℝ := (Ideal.tanh x).toReal

/-- A hyperbolic tangent is a real number at the two infinities as well. -/
theorem tanh_eq_coe (x : EReal) : Ideal.tanh x = ((tanhReal x : ℝ) : EReal) := by
  have h : ∃ r : ℝ, Ideal.tanh x = (r : EReal) := by
    induction x using EReal.rec with
    | bot => exact ⟨-1, by rw [Ideal.tanh_bot]; simp⟩
    | top => exact ⟨1, by rw [Ideal.tanh_top]; simp⟩
    | coe r => exact ⟨Real.tanh r, rfl⟩
  obtain ⟨r, hr⟩ := h
  rw [tanhReal, hr, EReal.toReal_coe]

/-- A finite sum of real numbers is the same in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative distributes over a sum of extended reals. -/
theorem coe_mul_sum {ι : Type} (s : Finset ι) {k : ℝ} (hk : 0 ≤ k) (f : ι → EReal) :
    (k : EReal) * ∑ i ∈ s, f i = ∑ i ∈ s, (k : EReal) * f i := by
  classical
  induction s using Finset.induction_on with
  | empty => simp
  | insert a s ha ih =>
    rw [Finset.sum_insert ha, Finset.sum_insert ha, EReal.left_distrib_of_nonneg_of_ne_top (by exact_mod_cast hk) (EReal.coe_ne_top k), ih]

/-! ### Scores -/

/-- The score of a position: its hidden activations against a real context vector, as a real number. -/
def score {n : ℕ} (a : Fin n → EReal) (c : Fin n → ℝ) : ℝ := ∑ h, tanhReal (a h) * c h

/-- The reference's score is that real number. -/
theorem sum_tanh_mul {n : ℕ} (a : Fin n → EReal) (c : Fin n → ℝ) :
    ∑ h, Ideal.tanh (a h) * (c h : EReal) = ((score a c : ℝ) : EReal) := by
  rw [score, coe_sum]
  exact Finset.sum_congr rfl fun h _ => by rw [tanh_eq_coe, ← EReal.coe_mul]

/-- A power of two at a real exponent divided by `log 2` is the exponential. -/
theorem exp2_scaled (s : ℝ) : Ideal.exp2 (((s * (Real.log 2)⁻¹ : ℝ)) : EReal) = ((Real.exp s : ℝ) : EReal) := by
  show ((Real.rpow 2 (s * (Real.log 2)⁻¹) : ℝ) : EReal) = _
  have h2 : Real.log 2 ≠ 0 := (Real.log_pos one_lt_two).ne'
  have e : Real.rpow 2 (s * (Real.log 2)⁻¹) = Real.exp (Real.log 2 * (s * (Real.log 2)⁻¹)) :=
    Real.rpow_def_of_pos two_pos _
  rw [e]
  congr 2
  field_simp

/-- The kernel's weight, from the context scaled by `1 / log 2`: the exponential of the score. -/
theorem exp2_sum_tanh_mul {n : ℕ} (a : Fin n → EReal) (c : Fin n → ℝ) :
    Ideal.exp2 (∑ h, Ideal.tanh (a h) * ((c h : EReal) * (((Real.log 2)⁻¹ : ℝ) : EReal)))
      = ((Real.exp (score a c) : ℝ) : EReal) := by
  rw [← exp2_scaled, score, Finset.sum_mul, coe_sum]
  congr 1
  refine Finset.sum_congr rfl fun h _ => ?_
  rw [tanh_eq_coe, ← EReal.coe_mul, ← EReal.coe_mul, mul_assoc]

/-! ### The weighted sums -/

/-- The sum of the weights, taken once and divided out at the end, against the softmax with the scores shifted by a
    real number `M`: the two weighted sums of the values agree. -/
theorem weighted_sum {n : ℕ} (hn : 0 < n) (s : Fin n → ℝ) (M : ℝ) (x : Fin n → EReal) :
    (∑ t, ((Real.exp (s t) : ℝ) : EReal) * x t) * Ideal.div 1 (∑ t, ((Real.exp (s t) : ℝ) : EReal))
      = ∑ t, Ideal.div ((Real.exp (s t - M) : ℝ) : EReal) (∑ u, ((Real.exp (s u - M) : ℝ) : EReal)) * x t := by
  haveI : Nonempty (Fin n) := ⟨⟨0, hn⟩⟩
  have hZ : 0 < ∑ t, Real.exp (s t) := Finset.sum_pos (fun t _ => Real.exp_pos _) Finset.univ_nonempty
  have hZM : ∑ u, Real.exp (s u - M) = (∑ t, Real.exp (s t)) * Real.exp (-M) := by
    rw [Finset.sum_mul]
    exact Finset.sum_congr rfl fun u _ => by rw [sub_eq_add_neg, Real.exp_add]
  have hM : Real.exp (-M) ≠ 0 := (Real.exp_pos _).ne'
  rw [← coe_sum, ← coe_sum, hZM, Ideal.div_coe hZ.ne', one_mul, mul_comm,
    coe_mul_sum _ (by positivity)]
  refine Finset.sum_congr rfl fun t _ => ?_
  rw [Ideal.div_coe (mul_ne_zero hZ.ne' hM), ← mul_assoc, ← EReal.coe_mul, ← EReal.coe_mul,
    sub_eq_add_neg, Real.exp_add]
  congr 2
  field_simp

/-! ### The maximum of finitely many real scores -/

/-- A maximum folded over real numbers, from `⊥`, is `⊥` or a real number. -/
theorem fold_max_coe {ι : Type} (s : Finset ι) (f : ι → ℝ) :
    s.fold max (⊥ : EReal) (fun i => (f i : EReal)) = ⊥ ∨ ∃ r : ℝ, s.fold max (⊥ : EReal) (fun i => (f i : EReal)) = (r : EReal) := by
  classical
  induction s using Finset.induction_on with
  | empty => exact .inl (by simp)
  | insert a s ha ih =>
    refine .inr ?_
    rw [Finset.fold_insert ha]
    rcases ih with h | ⟨r, h⟩
    · exact ⟨f a, by rw [h, max_bot_right]⟩
    · exact ⟨max (f a) r, by rw [h]; exact (EReal.coe_strictMono.monotone.map_max).symm⟩

/-- Over a set that is not empty it is a real number. -/
theorem exists_fold_max_coe {ι : Type} {s : Finset ι} (hs : s.Nonempty) (f : ι → ℝ) :
    ∃ r : ℝ, s.fold max (⊥ : EReal) (fun i => (f i : EReal)) = (r : EReal) := by
  rcases fold_max_coe s f with h | h
  · obtain ⟨i, hi⟩ := hs
    have hle : (f i : EReal) ≤ s.fold max (⊥ : EReal) (fun i => (f i : EReal)) :=
      (Finset.le_fold_max _).mpr (.inr ⟨i, hi, le_rfl⟩)
    rw [h] at hle
    exact absurd (le_bot_iff.mp hle) (EReal.coe_ne_bot _)
  · exact h

end Cert.Proof.Attention

end
-- ==== Proof.RowValue.lean ====
/-
  What the kernel stores for one row of the batch, read at an index over the extended reals. The row's value at
  column `d` is the sum over the 512 positions of a weight times the row's entry, times the reciprocal of the sum
  of the weights; a weight is a power of two of the row's hidden activations against the scaled context.
-/
module

public import proofs.«01_k».proof.Proof.Gen.KernelIdeal.Skeleton
public import Idealize.ShloMosaic.Lib.Pipeline.Value
public import Idealize.ShloMosaic.Lib.ValueIdx
public import Idealize.ShloMosaic.PureOps.Ideal.Laws
public import Idealize.ShloMosaic.PureOps.IdealRules

@[expose] public section

noncomputable section

namespace Cert.Proof.RowValue

open Idealize.ShloMosaic Idealize.ShloMosaic.ValueIdx Cert.KernelIdeal Cert.KernelIdeal.Gen
open scoped BigOperators

/-! ### The operations of a row, at an index -/

/-- The product of the row's positions by the weight matrix, into a zero accumulator: the sum over the shared axis. -/
theorem matmul_at (l : FVec Ideal S512x256 .bf16) (r : FVec Ideal S256x256 .bf16) (t : Fin 512) (h : Fin 256) :
    matmul dot_S512x256_S256x256_S512x256_1_0_0_1_n_n none l r (constant S512x256 .f32 0x00000000#32) (ix2 t h)
      = ∑ k : Fin 256, l (ix2 t k) * r (ix2 k h) := by
  let D := dot_S512x256_S256x256_S512x256_1_0_0_1_n_n
  show FloatOps.matmul D none l r (constant S512x256 .f32 0x00000000#32) (ix2 t h) = _
  rw [Ideal.matmul_constant_zero_apply, ← Equiv.sum_comp (contrEquiv1 D 256 rfl rfl).symm]
  refine Finset.sum_congr rfl fun k _ => ?_
  have hk := contrEquiv1_symm_val D 256 rfl rfl k
  have hl : D.lhsIdx (ix2 t h) ((contrEquiv1 D 256 rfl rfl).symm k) = ix2 t k :=
    Shape.idx_ext₂ rfl ((D.lhsIdx_val_of_single rfl (ix2 t h) _).trans hk)
  have hr : D.rhsIdx (ix2 t h) ((contrEquiv1 D 256 rfl rfl).symm k) = ix2 k h :=
    Shape.idx_ext₂ ((D.rhsIdx_val_of_single rfl (ix2 t h) _).trans hk) rfl
  rw [hl, hr]

/-- A one-row vector repeated down the 512 positions. -/
theorem repeatRow_at (v : FVec Ideal S1x256 .f32) (t : Fin 512) (h : Fin 256) :
    broadcastTo S512x256 v broadcasts_S1x256_S512x256 (ix2 t h) = v (ix2 0 h) :=
  broadcastTo_apply _ _ _ _ fun a => match a with | ⟨0, _⟩ => rfl | ⟨1, _⟩ => rfl

/-- One number for each position, repeated along the 256 columns. -/
theorem repeatColumn_at (v : FVec Ideal S512x1 .f32) (t : Fin 512) (h : Fin 256) :
    broadcastTo S512x256 v broadcasts_S512x1_S512x256 (ix2 t h) = v (ix2 t 0) :=
  broadcastTo_apply _ _ _ _ fun a => match a with | ⟨0, _⟩ => rfl | ⟨1, _⟩ => rfl

/-- One number repeated along a row. -/
theorem repeatOne_at (v : FVec Ideal S1x1 .f32) (u : Fin 1) (h : Fin 256) :
    broadcastTo S1x256 v broadcasts_S1x1_S1x256 (ix2 u h) = v (ix2 0 0) :=
  broadcastTo_apply _ _ _ _ fun a => match a with | ⟨0, _⟩ => rfl | ⟨1, _⟩ => rfl

/-- The sum along the columns. -/
theorem sumColumns (v : FVec Ideal S512x256 .f32) :
    multiReduction .add [1] S512 v 0x00000000#32 reduces_S512x256_S512 (.inl rfl) rfl = fun j => ∑ h : Fin 256, v (ix2 (j 0) h) :=
  funext fun j => (Ideal.multiReduction_add_single v _ _ _ _ j).trans
    (Finset.sum_congr rfl fun _ _ => congrArg v (Shape.idx_ext₂ rfl rfl))

/-- The sum down the positions, of one number for each. -/
theorem sumWeights (v : FVec Ideal S512x1 .f32) :
    multiReduction .add [0] S1 v 0x00000000#32 reduces_S512x1_S1 (.inl rfl) rfl = fun _ => ∑ t : Fin 512, v (ix2 t 0) :=
  funext fun j => (Ideal.multiReduction_add_single v _ _ _ _ j).trans
    (Finset.sum_congr rfl fun _ _ => congrArg v (Shape.idx_ext₂ rfl (by
      have : (j 0).val < 1 := (j 0).isLt
      show (j 0).val = 0
      omega)))

/-- The sum down the positions, column by column. -/
theorem sumRows (v : FVec Ideal S512x256 .f32) :
    multiReduction .add [0] S256 v 0x00000000#32 reduces_S512x256_S256 (.inl rfl) rfl = fun j => ∑ t : Fin 512, v (ix2 t (j 0)) :=
  funext fun j => (Ideal.multiReduction_add_single v _ _ _ _ j).trans
    (Finset.sum_congr rfl fun _ _ => congrArg v (Shape.idx_ext₂ rfl rfl))

/-- The row's block without its unit axis. -/
theorem dropRow_at (v : S1x512x256.Idx → Ideal .f32) (t : Fin 512) (h : Fin 256) :
    shapeCast S512x256 v shapeCasts_S1x512x256_S512x256 (ix2 t h) = v (ix3 0 t h) :=
  shapeCast_apply _ _ _ _ (by rw [Shape.rowMajor_val_three, Shape.rowMajor_val_two]; show (0 * 512 + t.val) * 256 + h.val = t.val * 256 + h.val; omega)

/-- A list of numbers as a column. -/
theorem asColumn_at (v : FVec Ideal S512 .f32) (t : Fin 512) (u : Fin 1) :
    shapeCast S512x1 v shapeCasts_S512_S512x1 (ix2 t u) = v (ix1 t) :=
  shapeCast_apply _ _ _ _ (by rw [Shape.rowMajor_val_one, Shape.rowMajor_val_two]; have := u.isLt; show t.val = t.val * 1 + u.val; omega)

/-- One number as a one-by-one array. -/
theorem asOne_at (v : FVec Ideal S1 .f32) (u w : Fin 1) :
    shapeCast S1x1 v shapeCasts_S1_S1x1 (ix2 u w) = v (ix1 0) :=
  shapeCast_apply _ _ _ _ (by rw [Shape.rowMajor_val_one, Shape.rowMajor_val_two]; have := u.isLt; have := w.isLt; show 0 = u.val * 1 + w.val; omega)

/-- A list of numbers as a row. -/
theorem asRow_at (v : FVec Ideal S256 .f32) (u : Fin 1) (d : Fin 256) :
    shapeCast S1x256 v shapeCasts_S256_S1x256 (ix2 u d) = v (ix1 d) :=
  shapeCast_apply _ _ _ _ (by rw [Shape.rowMajor_val_one, Shape.rowMajor_val_two]; have := u.isLt; show d.val = u.val * 256 + d.val; omega)

/-- A power of two, element by element. -/
theorem exp2_at {s : Shape} (v : FVec Ideal s .f32) (i : s.Idx) : exp2 v i = Ideal.exp2 (v i) := rfl

/-- A hyperbolic tangent, element by element. -/
theorem tanh_at {s : Shape} (v : FVec Ideal s .f32) (i : s.Idx) : tanh v i = Ideal.tanh (v i) := rfl

/-- The pattern of the number one. -/
theorem ofBits_one : Ideal.ofBits .f32 0x3F800000#32 = 1 := by
  simp [Ideal.ofBits, Ideal.ieee, -EReal.coe_mul]; norm_num

/-! ### The row -/

/-- The activation of hidden unit `h` at position `t` of a row, before the hyperbolic tangent. -/
def hidden (w : S256x256.Idx → EReal) (b : S1x256.Idx → EReal) (x : S1x512x256.Idx → EReal) (t : Fin 512) (h : Fin 256) : EReal :=
  (∑ k : Fin 256, x (ix3 0 t k) * w (ix2 k h)) + b (ix2 0 h)

/-- The kernel's weight of position `t`. -/
def weight (w : S256x256.Idx → EReal) (b c : S1x256.Idx → EReal) (x : S1x512x256.Idx → EReal) (t : Fin 512) : EReal :=
  Ideal.exp2 (∑ h : Fin 256, Ideal.tanh (hidden w b x t h) * (c (ix2 0 h) * (((Real.log 2)⁻¹ : ℝ) : EReal)))

/-- The context of the row, scaled: its element times the value of the named constant. -/
theorem scaledContext_at (c : Vec Ideal S1x256 .f32) (h : Fin 256) :
    k0_pay4 (F := Ideal) c (ix2 0 h) = c (ix2 0 h) * (((Real.log 2)⁻¹ : ℝ) : EReal) := by
  unfold k0_pay4
  rw [shapeCast_self, IdealRules.named_const.ideal_named_scalar _ _ _ _ rfl]
  rfl

/-- WHAT A ROW'S STORE HOLDS, at column `d`. -/
theorem row_at (w : Vec Ideal S256x256 .bf16) (b c : Vec Ideal S1x256 .f32) (x : Vec Ideal S1x512x256 .f32) (u : Fin 1) (d : Fin 256) :
    k0_pay5 (F := Ideal) w b c x (ix2 u d)
      = (∑ t : Fin 512, weight w b c x t * x (ix3 0 t d)) * Ideal.div 1 (∑ t : Fin 512, weight w b c x t) := by
  have e : ∀ t : Fin 512, weight w b c x t
      = Ideal.exp2 (∑ h : Fin 256, Ideal.tanh ((∑ k : Fin 256, x (ix3 0 t k) * w (ix2 k h)) + b (ix2 0 h)) * k0_pay4 (F := Ideal) c (ix2 0 h)) :=
    fun t => congrArg Ideal.exp2 (Finset.sum_congr rfl fun h _ => by rw [scaledContext_at]; rfl)
  simp only [e]
  unfold k0_pay5 k0_pay2 k0_pay3
  dsimp only
  rw [sumColumns, sumWeights, sumRows]
  simp only [mulf_apply, addf_apply, divf_apply, truncf_apply, broadcast_apply, shapeCast_self, exp2_at, tanh_at, matmul_at, repeatRow_at,
    repeatColumn_at, repeatOne_at, dropRow_at, asColumn_at, asOne_at, asRow_at,
    Scalar.ofBits, Ideal.ofBits_def, ofBits_one]

end Cert.Proof.RowValue

end
-- ==== Proof.BlockValue.lean ====
/-
  What the kernel's body leaves in the output buffer at one grid point, read at an index. The body stores 32 rows,
  one after the other, each computed from its own slab of the input block; the 32 rows tile the output block.
-/
module

public import proofs.«01_k».proof.Proof.RowValue
public import proofs.«01_k».proof.Proof.Gen.KernelIdeal.Value
public import Idealize.ShloMosaic.Lib.Pipeline.ValueKit.Tiles

@[expose] public section

noncomputable section

namespace Cert.Proof.BlockValue

open Idealize.ShloMosaic Idealize.ShloMosaic.ValueIdx Cert.KernelIdeal Cert.KernelIdeal.Gen Cert.Proof.RowValue
open scoped BigOperators

/-- The `r`-th slab of the input block lies inside it. -/
theorem slab_inb (r : Fin 32) : ∀ a, (![r.val, 0, 0] : Fin S32x512x256.rank → Nat) a + S1x512x256.size a ≤ S32x512x256.size a
  | ⟨0, _⟩ => Nat.succ_le_of_lt r.isLt
  | ⟨1, _⟩ => le_refl 512
  | ⟨2, _⟩ => le_refl 256

/-- The `r`-th row of the output block lies inside it. -/
theorem row_inb (r : Fin 32) : ∀ a, (![r.val, 0] : Fin S32x256.rank → Nat) a + S1x256.size a ≤ S32x256.size a
  | ⟨0, _⟩ => Nat.succ_le_of_lt r.isLt
  | ⟨1, _⟩ => le_refl 256

/-- The `r`-th slab of the input block. -/
def slab (X : S32x512x256.Idx → EReal) (r : Fin 32) : S1x512x256.Idx → EReal := fun i => X (ix3 r (i 1) (i 2))

/-- A load of the `r`-th slab. -/
theorem ld_slab (X : Vec Ideal S32x512x256 .f32) (r : Fin 32) :
    View.ld X (Rect.unit (s := S32x512x256) ![r.val, 0, 0] S1x512x256.size (slab_inb r)) = slab X r := by
  funext i
  refine View.ld_unit_apply_of (S := S32x512x256) X _ _ _ i (ix3 r (i 1) (i 2)) fun a => ?_
  match a with
  | ⟨0, _⟩ => have : (i 0).val < 1 := (i 0).isLt; show r.val = r.val + (i 0).val; omega
  | ⟨1, _⟩ => show (i 1).val = 0 + (i 1).val; omega
  | ⟨2, _⟩ => show (i 2).val = 0 + (i 2).val; omega

/-- The row stored `k`-th from the last: its number. -/
def rowNo (k : Fin 32) : Fin 32 := ⟨31 - k.val, by omega⟩

/-- The body's 32 stores, last first, as one family. -/
theorem stores (x0 : Vec Ideal S32x512x256 .f32) (x1 : Vec Ideal S256x256 .bf16) (x2 x3 : Vec Ideal S1x256 .f32) :
    out0_4 x0 x1 x2 x3 = View.canon (List.ofFn fun k : Fin 32 =>
      (⟨Rect.unit (s := S32x256) ![(rowNo k).val, 0] S1x256.size (row_inb (rowNo k)),
        k0_pay5 (View.ld x1 r0_0) (View.ld x2 r0_1) (View.ld x3 r0_1)
          (View.ld x0 (Rect.unit (s := S32x512x256) ![(rowNo k).val, 0, 0] S1x512x256.size (slab_inb (rowNo k))))⟩ :
        View.Piece (Elt Ideal) S32x256 .f32)) := rfl

/-- WHAT THE BODY LEAVES in row `r`, column `d` of the output block. -/
theorem block_at (x0 : Vec Ideal S32x512x256 .f32) (x1 : Vec Ideal S256x256 .bf16) (x2 x3 : Vec Ideal S1x256 .f32) (r : Fin 32) (d : Fin 256) :
    out0_4 x0 x1 x2 x3 (ix2 r d)
      = (∑ t : Fin 512, weight x1 x2 x3 (slab x0 r) t * slab x0 r (ix3 0 t d)) * Ideal.div 1 (∑ t : Fin 512, weight x1 x2 x3 (slab x0 r) t) := by
  have h1 : View.ld x1 r0_0 = x1 := View.ld_unit_zero (S := S256x256) (by decide) _ x1
  have h2 : View.ld x2 r0_1 = x2 := View.ld_unit_zero (S := S1x256) (by decide) _ x2
  have h3 : View.ld x3 r0_1 = x3 := View.ld_unit_zero (S := S1x256) (by decide) _ x3
  rw [stores, h1, h2, h3]
  refine View.canon_ofFn_unit_eq_of_forall (S := S32x256) (fun k => ![(rowNo k).val, 0]) S1x256.size (fun k => row_inb (rowNo k)) _ _ _ ?_ ?_
  · refine ⟨⟨31 - r.val, by omega⟩, fun a => ?_⟩
    have hr := r.isLt
    have hd := d.isLt
    match a with
    | ⟨0, _⟩ => show 31 - (31 - r.val) ≤ r.val ∧ r.val < 31 - (31 - r.val) + 1; omega
    | ⟨1, _⟩ => show 0 ≤ d.val ∧ d.val < 0 + 256; omega
  · intro k x hx
    have hx0 : r.val = (rowNo k).val + (x 0).val := hx 0
    have hx1 : d.val = 0 + (x 1).val := hx 1
    have hu : (x 0).val < 1 := (x 0).isLt
    have er : rowNo k = r := Fin.ext (by omega)
    have ed : x = ix2 0 d := Shape.idx_ext₂ (show (x 0).val = 0 by omega) (show (x 1).val = d.val by omega)
    show k0_pay5 x1 x2 x3 (View.ld x0 (Rect.unit (s := S32x512x256) ![(rowNo k).val, 0, 0] S1x512x256.size (slab_inb (rowNo k)))) x = _
    rw [ld_slab, er, ed, row_at]

end Cert.Proof.BlockValue

end
-- ==== Proof.ArrayValue.lean ====
/-
  The array the kernel returns, as one function of its four arguments. The host code before the call turns the weight
  matrix round and lays the bias and the context out as rows; grid point `t` computes rows `32 t` to `32 t + 31`.
-/
module

public import proofs.«01_k».proof.Proof.BlockValue
public import Idealize.ShloMosaic.Lib.Pipeline.ValueKit.Geometry
public import Idealize.ShloMosaic.Lib.StableHlo.Run

@[expose] public section

noncomputable section

namespace Cert.Proof.ArrayValue

open Idealize.ShloMosaic Idealize.ShloMosaic.ValueIdx Idealize.ShloMosaic.TcCoe Idealize.SL.Sem
open Cert.KernelIdeal Cert.KernelIdeal.Gen Cert.Proof.RowValue Cert.Proof.BlockValue
open scoped BigOperators

/-! ### The answer, over the arguments -/

/-- The activation of hidden unit `h` at position `t` of row `b`, before the hyperbolic tangent. -/
def activation (X : S256x512x256.Idx → EReal) (W : S256x256.Idx → EReal) (B : S256.Idx → EReal) (b : Fin 256) (t : Fin 512) (h : Fin 256) : EReal :=
  (∑ k : Fin 256, X (ix3 b t k) * W (ix2 h k)) + B (ix1 h)

/-- The kernel's weight of position `t` of row `b`. -/
def power (X : S256x512x256.Idx → EReal) (W : S256x256.Idx → EReal) (B : S256.Idx → EReal) (C : S256x1.Idx → EReal) (b : Fin 256) (t : Fin 512) : EReal :=
  Ideal.exp2 (∑ h : Fin 256, Ideal.tanh (activation X W B b t h) * (C (ix2 h 0) * (((Real.log 2)⁻¹ : ℝ) : EReal)))

/-- The kernel's result at row `b`, column `d`. -/
def answer (X : S256x512x256.Idx → EReal) (W : S256x256.Idx → EReal) (B : S256.Idx → EReal) (C : S256x1.Idx → EReal) (b d : Fin 256) : EReal :=
  (∑ t : Fin 512, power X W B C b t * X (ix3 b t d)) * Ideal.div 1 (∑ t : Fin 512, power X W B C b t)

variable (m : (ℓ : Loc nD τ sig) → Buf (Elt Ideal) ℓ) (c : Dev nD)

/-! ### What the host code hands the call -/

/-- The weight matrix as the call finds it: turned round. -/
theorem weights_at (k h : Fin 256) : V m c main_v1 (ix2 k h) = m ((c : Thread nD τ).loc main_arg1) (ix2 h k) := by
  have e : V m c main_v1 = (truncf .bf16 (transpose S256x256 [1, 0] (m ((c : Thread nD τ).loc main_arg1)) transposes_S256x256_S256x256_1_0 : FVec Ideal S256x256 .f32) bitsLt_bf16_f32 : FVec Ideal S256x256 .bf16) := by
    unfold V hostOps0; after_results <;> rfl
  rw [e, truncf_apply]
  exact transpose_apply _ _ _ _ (ix2 h k) fun b => match b with | ⟨0, _⟩ => rfl | ⟨1, _⟩ => rfl

/-- The bias as the call finds it: a row. -/
theorem bias_at (h : Fin 256) : V m c main_v2 (ix2 0 h) = m ((c : Thread nD τ).loc main_arg2) (ix1 h) := by
  have e : V m c main_v2 = shapeCast S1x256 (m ((c : Thread nD τ).loc main_arg2)) shapeCasts_S256_S1x256 := by
    unfold V hostOps0; after_results <;> rfl
  rw [e]
  exact shapeCast_apply (s := S256) _ _ _ (ix1 h) (by rw [Shape.rowMajor_val_one, Shape.rowMajor_val_two]; show h.val = 0 * 256 + h.val; omega)

/-- The context as the call finds it: a row. -/
theorem context_at (h : Fin 256) : V m c main_v3 (ix2 0 h) = m ((c : Thread nD τ).loc main_arg3) (ix2 h 0) := by
  have e : V m c main_v3 = shapeCast S1x256 (m ((c : Thread nD τ).loc main_arg3)) shapeCasts_S256x1_S1x256 := by
    unfold V hostOps0; after_results <;> rfl
  rw [e]
  exact shapeCast_apply (s := S256x1) _ _ _ (ix2 h 0) (by rw [Shape.rowMajor_val_two, Shape.rowMajor_val_two]; show h.val * 1 + 0 = 0 * 256 + h.val; omega)

/-! ### The blocks of a grid point -/

/-- The first coordinate of a grid point is its number. -/
theorem index4 : ∀ t : Fin cfg0.N, win0_4.index t = ![t.val, 0] := (by decide +kernel : ∀ t : Fin grid0.N, win0_4.index t = ![t.val, 0])
/-- The input block of grid point `t` is the `t`-th along the batch. -/
theorem index0 : ∀ t : Fin cfg0.N, win0_0.index t = ![t.val, 0, 0] := (by decide +kernel : ∀ t : Fin grid0.N, win0_0.index t = ![t.val, 0, 0])
/-- Every grid point takes the one weight block. -/
theorem index1 : ∀ t : Fin cfg0.N, win0_1.index t = ![0, 0] := (by decide +kernel : ∀ t : Fin grid0.N, win0_1.index t = ![0, 0])
/-- Every grid point takes the one bias block. -/
theorem index2 : ∀ t : Fin cfg0.N, win0_2.index t = ![0, 0] := (by decide +kernel : ∀ t : Fin grid0.N, win0_2.index t = ![0, 0])
/-- Every grid point takes the one context block. -/
theorem index3 : ∀ t : Fin cfg0.N, win0_3.index t = ![0, 0] := (by decide +kernel : ∀ t : Fin grid0.N, win0_3.index t = ![0, 0])

/-- The batch row that grid point `t` treats `r`-th. -/
def batchRow (t : Fin cfg0.N) (r : Fin 32) : Fin 256 := ⟨t.val * 32 + r.val, by have : t.val < 8 := t.isLt; omega⟩

/-- The weight block is the whole matrix, turned round. -/
theorem block1_at (t : Fin cfg0.N) (k h : Fin 256) : iblk m c 1 t (ix2 k h) = m ((c : Thread nD τ).loc main_arg1) (ix2 h k) := by
  blk_simp [iblk]
  exact (congrArg (V m c main_v1) (by blk_ext [index1])).trans (weights_at m c k h)

/-- The bias block is the whole bias. -/
theorem block2_at (t : Fin cfg0.N) (h : Fin 256) : iblk m c 2 t (ix2 0 h) = m ((c : Thread nD τ).loc main_arg2) (ix1 h) := by
  blk_simp [iblk]
  exact (congrArg (V m c main_v2) (by blk_ext [index2])).trans (bias_at m c h)

/-- The context block is the whole context. -/
theorem block3_at (t : Fin cfg0.N) (h : Fin 256) : iblk m c 3 t (ix2 0 h) = m ((c : Thread nD τ).loc main_arg3) (ix2 h 0) := by
  blk_simp [iblk]
  exact (congrArg (V m c main_v3) (by blk_ext [index3])).trans (context_at m c h)

/-- A slab of the input block is one row of the batch. -/
theorem block0_at (t : Fin cfg0.N) (r : Fin 32) (p : Fin 512) (k : Fin 256) :
    slab (iblk m c 0 t) r (ix3 0 p k) = m ((c : Thread nD τ).loc main_arg0) (ix3 (batchRow t r) p k) := by
  show iblk m c 0 t (ix3 r p k) = _
  blk_simp [iblk]
  exact (congrArg (V m c main_arg0) (by blk_ext [index0, batchRow])).trans (congrFun (V_main_arg0 m c) _)

/-! ### The array -/

/-- The answer as an array. -/
def result : S256x256.Idx → EReal := fun i =>
  answer (m ((c : Thread nD τ).loc main_arg0)) (m ((c : Thread nD τ).loc main_arg1)) (m ((c : Thread nD τ).loc main_arg2)) (m ((c : Thread nD τ).loc main_arg3)) (i 0) (i 1)

/-- What grid point `t` leaves in row `r` of its block is the answer at that row of the batch. -/
theorem point_at (t : Fin cfg0.N) (r : Fin 32) (d : Fin 256) :
    out0_4 (iblk m c 0 t) (iblk m c 1 t) (iblk m c 2 t) (iblk m c 3 t) (ix2 r d) = result m c (ix2 (batchRow t r) d) := by
  have hw : ∀ p : Fin 512, weight (iblk m c 1 t) (iblk m c 2 t) (iblk m c 3 t) (slab (iblk m c 0 t) r) p
      = power (m ((c : Thread nD τ).loc main_arg0)) (m ((c : Thread nD τ).loc main_arg1)) (m ((c : Thread nD τ).loc main_arg2)) (m ((c : Thread nD τ).loc main_arg3)) (batchRow t r) p := by
    intro p
    simp only [weight, power, RowValue.hidden, activation, block0_at, block1_at, block2_at, block3_at]
  rw [block_at]
  simp only [hw, block0_at]
  rfl

/-- THE KERNEL'S ARRAY is the answer. -/
theorem array_eq : (dats m 0 c).arrAt 4 cfg0.N = result m c := by
  refine (dats m 0 c).arrAt_eq_of_covers 4 _ (by decide +kernel) fun t hf y => ?_
  blk_simp
  rw [after0_4]
  have ey : y = ix2 (y 0) (y 1) := eq_ix2 y
  refine (congrArg (out0_4 (iblk m c 0 t) (iblk m c 1 t) (iblk m c 2 t) (iblk m c 3 t)) ey).trans ((point_at m c t (y 0) (y 1)).trans ?_)
  exact congrArg (result m c) (by blk_ext [index4, batchRow])

end Cert.Proof.ArrayValue

end
-- ==== Proof.ReferenceValue.lean ====
/-
  What the reference returns, read at an index over the extended reals: the softmax of the scores, computed with their
  maximum taken off, against the row's entries.
-/
module

public import proofs.«01_k».proof.Proof.Attention
public import proofs.«01_k».proof.Proof.Gen.ReferenceIdeal.Read

@[expose] public section

noncomputable section

namespace Cert.Proof.ReferenceValue

open Idealize.ShloMosaic Idealize.ShloMosaic.ValueIdx Cert.ReferenceIdeal Cert.ReferenceIdeal.Gen Cert.ReferenceIdeal.Read
open scoped BigOperators

variable (X : FVec Ideal S256x512x256 .f32) (W : FVec Ideal S256x256 .f32) (B : FVec Ideal S256 .f32) (C : FVec Ideal S256x1 .f32)

/-- The activation of hidden unit `h` at position `t` of row `b`, before the hyperbolic tangent. -/
theorem activation_at (b : Fin 256) (t : Fin 512) (h : Fin 256) :
    val_main_v3 (F := Ideal) X W B (ix3 b t h) = (∑ k : Fin 256, X (ix3 b t k) * W (ix2 h k)) + B (ix1 h) := by
  have e0 : ∀ k : Fin 256, lidx_main_v0 (ix3 b t h) k = ix3 b t k := fun k => eq_ix3 _
  have e1 : ∀ k : Fin 256, ridx_main_v0 (ix3 b t h) k = ix2 h k := fun k => eq_ix2 _
  have e2 : idx_main_v1 (idx_main_v2 (ix3 b t h)) = ix1 h := eq_ix1 _
  rw [val_main_v3_apply, Ideal.addf_def, val_main_v0_apply, val_main_v2_apply, val_main_v1_apply, e2]
  simp only [e0, e1]

/-- The score of position `t` of row `b`, as the reference computes it. -/
theorem score_at (b : Fin 256) (t : Fin 512) :
    val_main_v6 (F := Ideal) X W B C (ix2 b t)
      = ∑ h : Fin 256, Ideal.tanh ((∑ k : Fin 256, X (ix3 b t k) * W (ix2 h k)) + B (ix1 h)) * C (ix2 h 0) := by
  rw [val_main_v6_apply]
  refine Finset.sum_congr rfl fun h _ => ?_
  have e0 : lidx_main_v6 (ix2 b t) h = ix3 b t h := eq_ix3 _
  have e1 : idx_main_v5 (ridx_main_v6 (ix2 b t) h) = ix2 h 0 := Shape.idx_ext₂ (Nat.div_one _) rfl
  rw [e0, val_main_v4_apply, activation_at, Ideal.hostUnary_tanh_def, val_main_v5_apply, e1]

/-- The pattern of minus infinity. -/
theorem ofBits_bot : Ideal.ofBits .f32 0xFF800000#32 = ⊥ := by simp [Ideal.ofBits, Ideal.ieee]

/-- The largest score of row `b`, as the reference computes it. -/
theorem largest_at (b : Fin 256) :
    val_main_v9 (F := Ideal) X W B C (ix1 b)
      = max ⊥ ((Finset.univ : Finset (Fin 512)).fold max ⊥ fun t => val_main_v6 (F := Ideal) X W B C (ix2 b t)) := by
  rw [val_main_v9_apply, Ideal.maximumf_def, val_main_v8_apply, val_main_cst_0_apply, Ideal.ofBits_def, ofBits_bot]
  have hr : S256x512.Reduces [1] S256 := by decide
  have ef : val_main_v6 (F := Ideal) X W B C ∘ hr.lift (ix1 b) = fun t : Fin 512 => val_main_v6 (F := Ideal) X W B C (ix2 b t) :=
    funext fun t => congrArg (val_main_v6 (F := Ideal) X W B C) (Shape.idx_ext₂ rfl rfl)
  have ei : val_main_cst (F := Ideal) (Shape.Idx.first h_S_) = ⊥ := ofBits_bot
  unfold val_main_v7
  rw [Host.reduce_eq_fold_single FloatOps.maximumf _ _ reducesTo_S256x512_S256_d1 hr h_S_ (ix1 b), ei]
  exact congrArg (fun f => max ⊥ (Finset.fold max ⊥ f (Finset.univ : Finset (Fin 512)))) ef

/-- The weight of position `t` of row `b`, before it is divided by their sum. -/
theorem weight_at (b : Fin 256) (t : Fin 512) :
    val_main_v13 (F := Ideal) X W B C (ix2 b t)
      = Ideal.exp (val_main_v6 (F := Ideal) X W B C (ix2 b t) - val_main_v9 (F := Ideal) X W B C (ix1 b)) := by
  have e : idx_main_v10 (idx_main_v11 (ix2 b t)) = ix1 b := eq_ix1 _
  rw [val_main_v13_apply, Ideal.hostUnary_exp_def, val_main_v12_apply, Ideal.subf_def, val_main_v11_apply, val_main_v10_apply, e]

/-- The sum of the weights of row `b`. -/
theorem total_at (b : Fin 256) :
    val_main_v14 (F := Ideal) X W B C (ix1 b) = ∑ t : Fin 512, val_main_v13 (F := Ideal) X W B C (ix2 b t) := by
  rw [val_main_v14_apply, val_main_cst_1_apply, Ideal.ofBits_def, Ideal.ofBits_zero_f32, zero_add]
  exact Finset.sum_congr rfl fun t _ => congrArg _ (eq_ix2 (idx_main_v14 (ix1 b) t))

/-- THE REFERENCE'S RESULT at row `b`, column `d`. -/
theorem result_at (b d : Fin 256) :
    val_main_v18 (F := Ideal) X W B C (ix2 b d)
      = ∑ t : Fin 512, Ideal.div (val_main_v13 (F := Ideal) X W B C (ix2 b t)) (val_main_v14 (F := Ideal) X W B C (ix1 b)) * X (ix3 b t d) := by
  rw [val_main_v18_apply]
  refine Finset.sum_congr rfl fun t _ => ?_
  have e0 : lidx_main_v18 (ix2 b d) t = ix2 b t := eq_ix2 _
  have e1 : ridx_main_v18 (ix2 b d) t = ix3 b t d := eq_ix3 _
  have e2 : idx_main_v15 (idx_main_v16 (ix2 b t)) = ix1 b := eq_ix1 _
  rw [e0, e1, val_main_v17_apply, Ideal.hostDivf_def, val_main_v16_apply, val_main_v15_apply, e2]

end Cert.Proof.ReferenceValue

end
-- ==== Proof.Agreement.lean ====
/-
  The kernel's answer is the reference's result, wherever the context's elements are real numbers. The scores are then
  real, and so is their maximum, so taking it off changes nothing: it divides every weight, and the sum of the weights,
  by the same positive number.
-/
module

public import proofs.«01_k».proof.Proof.Attention
public import proofs.«01_k».proof.Proof.ArrayValue
public import proofs.«01_k».proof.Proof.ReferenceValue
public import proofs.«01_k».proof.Pre_context_finite
public import proofs.«01_k».proof.Proof.Gen.Pre_context_finite

@[expose] public section

noncomputable section

namespace Cert.Proof.Agreement

open Idealize.ShloMosaic Idealize.ShloMosaic.ValueIdx Cert.ReferenceIdeal Cert.ReferenceIdeal.Gen Cert.ReferenceIdeal.Read
open Cert.Proof.Attention Cert.Proof.ReferenceValue Cert.Proof.ArrayValue
open scoped BigOperators

variable (X : FVec Ideal S256x512x256 .f32) (W : FVec Ideal S256x256 .f32) (B : FVec Ideal S256 .f32) (C : FVec Ideal S256x1 .f32)

/-! ### What the precondition says -/

/-- The pattern of plus infinity. -/
theorem ofBits_top : Ideal.ofBits .f32 0x7F800000#32 = ⊤ := by simp [Ideal.ofBits, Ideal.ieee]

/-- An extended real whose absolute value lies below plus infinity is a real number. -/
theorem exists_real {x : EReal} (h : max x (-x) < ⊤) : ∃ r : ℝ, x = (r : EReal) := by
  induction x with
  | bot => simp at h
  | coe r => exact ⟨r, rfl⟩
  | top => simp at h

/-- Where the precondition holds, every element of the context is a real number. -/
theorem context_real (h : ∀ i, Cert.Pre_context_finite.fn (F := Ideal) X W B C i = 1#1) : ∃ r : Fin 256 → ℝ, ∀ k, C (ix2 k 0) = (r k : EReal) := by
  refine Classical.skolem.mp fun k => exists_real ?_
  have hk : Ideal.cmp .olt (max (C (ix2 k 0)) (-(C (ix2 k 0)))) (Ideal.ofBits .f32 0x7F800000#32) = 1#1 := h (ix2 k 0)
  rw [ofBits_top] at hk
  by_contra hn
  simp [Ideal.cmp, hn] at hk

/-! ### The two results -/

/-- The score of position `t` of row `b`: a real number. -/
def rowScore (r : Fin 256 → ℝ) (b : Fin 256) (t : Fin 512) : ℝ := score (activation X W B b t) r

/-- The kernel's weight is the exponential of the score. -/
theorem power_eq {r : Fin 256 → ℝ} (hr : ∀ k, C (ix2 k 0) = (r k : EReal)) (b : Fin 256) (t : Fin 512) :
    power X W B C b t = ((Real.exp (rowScore X W B r b t) : ℝ) : EReal) := by
  unfold power
  simp only [hr]
  exact exp2_sum_tanh_mul (activation X W B b t) r

/-- The reference's score is that real number. -/
theorem score_eq {r : Fin 256 → ℝ} (hr : ∀ k, C (ix2 k 0) = (r k : EReal)) (b : Fin 256) (t : Fin 512) :
    val_main_v6 (F := Ideal) X W B C (ix2 b t) = ((rowScore X W B r b t : ℝ) : EReal) := by
  rw [score_at]
  simp only [hr]
  exact sum_tanh_mul (activation X W B b t) r

/-- The reference's largest score of a row is a real number. -/
theorem largest_real {r : Fin 256 → ℝ} (hr : ∀ k, C (ix2 k 0) = (r k : EReal)) (b : Fin 256) :
    ∃ M : ℝ, val_main_v9 (F := Ideal) X W B C (ix1 b) = (M : EReal) := by
  obtain ⟨M, hM⟩ := exists_fold_max_coe (s := (Finset.univ : Finset (Fin 512))) ⟨0, Finset.mem_univ _⟩ (rowScore X W B r b)
  refine ⟨M, ?_⟩
  rw [largest_at]
  simp only [score_eq X W B C hr]
  rw [hM]
  exact bot_sup_eq _

/-- THE TWO RESULTS AGREE at row `b`, column `d`. -/
theorem agree (h : ∀ i, Cert.Pre_context_finite.fn (F := Ideal) X W B C i = 1#1) (b d : Fin 256) :
    answer X W B C b d = val_main_v18 (F := Ideal) X W B C (ix2 b d) := by
  obtain ⟨r, hr⟩ := context_real X W B C h
  obtain ⟨M, hM⟩ := largest_real X W B C hr b
  have hw : ∀ t : Fin 512, val_main_v13 (F := Ideal) X W B C (ix2 b t) = ((Real.exp (rowScore X W B r b t - M) : ℝ) : EReal) := by
    intro t
    rw [weight_at, score_eq X W B C hr, hM, ← EReal.coe_sub, Ideal.exp_coe]
  rw [result_at, total_at]
  simp only [hw]
  unfold answer
  simp only [power_eq X W B C hr]
  exact weighted_sum (by decide) (rowScore X W B r b) M fun t => X (ix3 b t d)

end Cert.Proof.Agreement

end
-- ==== Proof.lean ====
/-
  The claims about the attention pooling kernel, put together. The frames of the kernel and of its idealization are the
  generated ones; the reference declares no semaphore, so its run leaves every counter at zero. The value claim takes
  the kernel's array (Proof/ArrayValue.lean) to the reference's result (Proof/ReferenceValue.lean) by
  Proof/Agreement.lean.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_context_finite
public import proofs.«01_k».proof.Proof.Agreement

@[expose] public section

noncomputable section

namespace Cert.Proof

open Idealize.ShloMosaic Idealize.ShloMosaic.ValueIdx Idealize.SL.Sem

/-- The reference declares no semaphore, so any two states of its counters are equal. -/
theorem reference_counters (f : GSem Cert.ReferenceIdeal.nD Cert.ReferenceIdeal.τ Cert.ReferenceIdeal.sig → ℤ) : f = fun _ => 0 := by
  funext g
  rcases g with ⟨_, s | s⟩
  · exact s.elim0
  · exact s.elim0

/-- The reference ends with its arguments unchanged and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3))
      ∧ r.2.sem = fun _ => 0 :=
  (θ_run _ _ _).mono (fun r h => ⟨fun c => (h c).2, reference_counters r.2.sem⟩) (Cert.ReferenceIdeal.Value.run m g)

/-- The kernel's result and the reference's are one array, from memories with the same arguments. -/
theorem value : Cert.algebraic_KernelIdeal_ReferenceIdeal_pre_context_finite := by
  intro m g m' g' hpre hargs
  refine ⟨fun c => ArrayValue.result m c, ?_, ?_⟩
  · refine (θ_run _ _ _).mono (fun r h c => ⟨(h c).1.trans (ArrayValue.array_eq m c), (h c).2⟩) (Cert.KernelIdeal.Value.run_blocks m g)
  · refine (θ_run _ _ _).mono (fun r h c => ⟨(h c).1.trans ?_, (h c).2⟩) (Cert.ReferenceIdeal.Value.run m' g')
    obtain ⟨e0, e1, e2, e3⟩ := hargs c
    refine (Cert.ReferenceIdeal.Read.val_main_v18_eq (F := Ideal) _ _ _ _).trans ?_
    rw [e0, e1, e2, e3]
    funext i
    exact (congrArg _ (eq_ix2 i)).trans (Agreement.agree _ _ _ _ (fun k => congrFun (hpre c) k) (i 0) (i 1)).symm

/-- All the claims: the three frames, the meaning of the named constant, and the value claim. -/
theorem claim : Cert.Claim := ⟨Cert.Kernel.Gen.facts, Cert.KernelIdeal.Gen.facts, Cert.ReferenceIdeal.Gen.facts, Cert.Pre_context_finite.Gen.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  IdealRules.named_const.statement Cert.KernelIdeal.κ "log2e" .f32 0x3FB8AA3B#32 (((Real.log 2)⁻¹ : ℝ) : EReal) rfl,
  value⟩

end Cert.Proof

end
